-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positions_in_table [hPre_positions_in_table : Cert.Pre_positions_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_positions_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_in_table [hPre_positions_in_table : Cert.Pre_positions_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_positions_in_table [hKernelIdeal : Cert.KernelIdeal.Facts] [hPre_positions_in_table : Cert.Pre_positions_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_positions_in_table [hReferenceIdeal : Cert.ReferenceIdeal.Facts] [hPre_positions_in_table : Cert.Pre_positions_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_positions_in_table [hKernelIdeal : Cert.KernelIdeal.Facts] [hReferenceIdeal : Cert.ReferenceIdeal.Facts] [hPre_positions_in_table : Cert.Pre_positions_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_positions_in_table : Cert.Pre_positions_in_table.Facts),
    quiescent_Kernel (hKernel := hKernel)
    ∧ quiescent_KernelIdeal (hKernelIdeal := hKernelIdeal)
    ∧ quiescent_KernelIdeal_pre_positions_in_table (hKernelIdeal := hKernelIdeal) (hPre_positions_in_table := hPre_positions_in_table)
    ∧ quiescent_ReferenceIdeal (hReferenceIdeal := hReferenceIdeal)
    ∧ quiescent_ReferenceIdeal_pre_positions_in_table (hReferenceIdeal := hReferenceIdeal) (hPre_positions_in_table := hPre_positions_in_table)
    ∧ preserves_Kernel_KernelIdeal
    ∧ algebraic_KernelIdeal_ReferenceIdeal_pre_positions_in_table (hKernelIdeal := hKernelIdeal) (hReferenceIdeal := hReferenceIdeal) (hPre_positions_in_table := hPre_positions_in_table)
-- ==== Pre_positions_in_table.lean ====
abbrev S2x8x4x4096x128 : Shape := ⟨5, ![2, 8, 4, 4096, 128]⟩
abbrev S2x1x1x4096 : Shape := ⟨4, ![2, 1, 1, 4096]⟩
abbrev S2x1x1x2048 : Shape := ⟨4, ![2, 1, 1, 2048]⟩
abbrev S_ : Shape := ⟨0, ![]⟩

class Facts : Prop where
  slices_S2x1x1x4096_S2x1x1x2048_0_0_0_0 : S2x1x1x4096.Slices ![0, 0, 0, 0] S2x1x1x2048
  bcast_S_S2x1x1x2048 : S_.BroadcastsInDim S2x1x1x2048 (![] : Fin 0 → Fin S2x1x1x2048.rank)
  reducesTo_S2x1x1x2048_S_d0_1_2_3 : S2x1x1x2048.ReducesTo [0, 1, 2, 3] S_
  h_S_ : 0 < S_.numel

variable [Facts]

def fn {F : FTy → Type} [FloatOps F] (main_arg0 : FVec F S2x8x4x4096x128 .f32) (main_arg1 : IVec S2x1x1x4096 32) : IVec S_ 1 :=
  let main_v0 : IVec S2x1x1x2048 32 := (extractStridedSlice S2x1x1x2048 ![0, 0, 0, 0] · slices_S2x1x1x4096_S2x1x1x2048_0_0_0_0) main_arg1
  let main_c : IVec S_ 32 := constantI S_ 32 0#32
  let main_v1 : IVec S2x1x1x2048 32 := broadcastInDim S2x1x1x2048 ![] bcast_S_S2x1x1x2048 main_c
  let main_v2 : IVec S2x1x1x2048 1 := cmpi .sge main_v0 main_v1
  let main_c_0 : IVec S_ 32 := constantI S_ 32 8192#32
  let main_v3 : IVec S2x1x1x2048 32 := broadcastInDim S2x1x1x2048 ![] bcast_S_S2x1x1x2048 main_c_0
  let main_v4 : IVec S2x1x1x2048 1 := cmpi .slt main_v0 main_v3
  let main_v5 : IVec S2x1x1x2048 1 := andi main_v2 main_v4
  let main_c_1 : IVec S_ 1 := constantI S_ 1 1#1
  let main_v6 : IVec S_ 1 := (fun x v => Host.reduce IntOp.andi x v reducesTo_S2x1x1x2048_S_d0_1_2_3 h_S_) main_v5 main_c_1
  main_v6
-- ==== Kernel.lean ====
abbrev S2x8x4x4096x128 : Shape := ⟨5, ![2, 8, 4, 4096, 128]⟩
abbrev S2x1x1x4096 : Shape := ⟨4, ![2, 1, 1, 4096]⟩
abbrev S2x32x4096x128 : Shape := ⟨4, ![2, 32, 4096, 128]⟩
abbrev S2x1x4096 : Shape := ⟨3, ![2, 1, 4096]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S1x1x4096 : Shape := ⟨3, ![1, 1, 4096]⟩
abbrev S1x4x4096x128 : Shape := ⟨4, ![1, 4, 4096, 128]⟩
abbrev S4096x128 : Shape := ⟨2, ![4096, 128]⟩
abbrev S4096 : Shape := ⟨1, ![4096]⟩
abbrev S4096x1 : Shape := ⟨2, ![4096, 1]⟩
abbrev S1x1x4096x128 : Shape := ⟨4, ![1, 1, 4096, 128]⟩

abbrev nBuf : Space → Nat
  | .hbm => 16
  | .vmem => 9
  | .smem => 0
  | _ => 0

abbrev bufTy : (tb : Table) → Fin (tcTables nBuf tb) → BufTy
  | .hbm, ⟨0, _⟩ => ⟨S2x8x4x4096x128, .f32⟩
  | .hbm, ⟨1, _⟩ => ⟨S2x1x1x4096, .i32⟩
  | .hbm, ⟨2, _⟩ => ⟨S2x32x4096x128, .f32⟩
  | .hbm, ⟨3, _⟩ => ⟨S2x1x4096, .i32⟩
  | .hbm, ⟨4, _⟩ => ⟨S128, .i32⟩
  | .hbm, ⟨5, _⟩ => ⟨S128x1, .i32⟩
  | .hbm, ⟨6, _⟩ => ⟨S_, .i32⟩
  | .hbm, ⟨7, _⟩ => ⟨S128x1, .i32⟩
  | .hbm, ⟨8, _⟩ => ⟨S128x1, .i32⟩
  | .hbm, ⟨9, _⟩ => ⟨S1x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S128x128, .f32⟩
  | .hbm, ⟨14, _⟩ => ⟨S2x32x4096x128, .f32⟩
  | .hbm, ⟨15, _⟩ => ⟨S2x8x4x4096x128, .f32⟩
  | .local _ .vmem, ⟨0, _⟩ => ⟨S1x1x4096, .i32⟩
  | .local _ .vmem, ⟨1, _⟩ => ⟨S1x1x4096, .i32⟩
  | .local _ .vmem, ⟨2, _⟩ => ⟨S128x128, .f32⟩
  | .local _ .vmem, ⟨3, _⟩ => ⟨S1x4x4096x128, .f32⟩
  | .local _ .vmem, ⟨4, _⟩ => ⟨S1x4x4096x128, .f32⟩
  | .local _ .vmem, ⟨5, _⟩ => ⟨S1x4x4096x128, .f32⟩
  | .local _ .vmem, ⟨6, _⟩ => ⟨S1x4x4096x128, .f32⟩
  | .local _ .vmem, ⟨7, _⟩ => ⟨S4096x128, .f32⟩
  | .local _ .vmem, ⟨8, _⟩ => ⟨S4096x128, .f32⟩
  | _, _ => ⟨S2x8x4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_c : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x4x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8x4x4096x128 : Shape := ⟨5, ![2, 8, 4, 4096, 128]⟩
abbrev S2x1x1x4096 : Shape := ⟨4, ![2, 1, 1, 4096]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x64x2 : Shape := ⟨3, ![8192, 64, 2]⟩
abbrev S8192x128 : Shape := ⟨2, ![8192, 128]⟩
abbrev S2x1x1x2048 : Shape := ⟨4, ![2, 1, 1, 2048]⟩
abbrev S2x1x1x2048x1 : Shape := ⟨5, ![2, 1, 1, 2048, 1]⟩
abbrev S2x1x1x2048x128 : Shape := ⟨5, ![2, 1, 1, 2048, 128]⟩
abbrev S2x2048 : Shape := ⟨2, ![2, 2048]⟩
abbrev S2x2048x1 : Shape := ⟨3, ![2, 2048, 1]⟩
abbrev S1x1x64 : Shape := ⟨3, ![1, 1, 64]⟩
abbrev S2x2048x64 : Shape := ⟨3, ![2, 2048, 64]⟩
abbrev S2x2048x64x2 : Shape := ⟨4, ![2, 2048, 64, 2]⟩
abbrev S2x2048x128 : Shape := ⟨3, ![2, 2048, 128]⟩
abbrev S2x1x1x4096x128 : Shape := ⟨5, ![2, 1, 1, 4096, 128]⟩
abbrev S2x8x4x4096x64 : Shape := ⟨5, ![2, 8, 4, 4096, 64]⟩
abbrev S2x8x4x4096x64x1 : Shape := ⟨6, ![2, 8, 4, 4096, 64, 1]⟩
abbrev S2x8x4x4096x64x2 : Shape := ⟨6, ![2, 8, 4, 4096, 64, 2]⟩

abbrev nBuf : Space → Nat
  | .hbm => 75
  | .vmem => 0
  | .smem => 0
  | _ => 0

abbrev bufTy : (tb : Table) → Fin (tcTables nBuf tb) → BufTy
  | .hbm, ⟨0, _⟩ => ⟨S2x8x4x4096x128, .f32⟩
  | .hbm, ⟨1, _⟩ => ⟨S2x1x1x4096, .i32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S8192, .f32⟩
  | .hbm, ⟨19, _⟩ => ⟨S8192x1, .f32⟩
  | .hbm, ⟨20, _⟩ => ⟨S1x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x64x2, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S2x1x1x2048, .i32⟩
  | .hbm, ⟨29, _⟩ => ⟨S_, .i32⟩
  | .hbm, ⟨30, _⟩ => ⟨S2x1x1x2048, .i32⟩
  | .hbm, ⟨31, _⟩ => ⟨S2x1x1x2048, .i1⟩
  | .hbm, ⟨32, _⟩ => ⟨S_, .i32⟩
  | .hbm, ⟨33, _⟩ => ⟨S2x1x1x2048, .i32⟩
  | .hbm, ⟨34, _⟩ => ⟨S2x1x1x2048, .i32⟩
  | .hbm, ⟨35, _⟩ => ⟨S2x1x1x2048, .i32⟩
  | .hbm, ⟨36, _⟩ => ⟨S2x1x1x2048x1, .i32⟩
  | .hbm, ⟨37, _⟩ => ⟨S2x1x1x2048x128, .f32⟩
  | .hbm, ⟨38, _⟩ => ⟨S_, .i32⟩
  | .hbm, ⟨39, _⟩ => ⟨S2x1x1x2048, .i32⟩
  | .hbm, ⟨40, _⟩ => ⟨S2x1x1x2048, .i1⟩
  | .hbm, ⟨41, _⟩ => ⟨S_, .i32⟩
  | .hbm, ⟨42, _⟩ => ⟨S2x1x1x2048, .i32⟩
  | .hbm, ⟨43, _⟩ => ⟨S2x1x1x2048, .i32⟩
  | .hbm, ⟨44, _⟩ => ⟨S2x1x1x2048, .i32⟩
  | .hbm, ⟨45, _⟩ => ⟨S2x1x1x2048x1, .i32⟩
  | .hbm, ⟨46, _⟩ => ⟨S2x1x1x2048x128, .f32⟩
  | .hbm, ⟨47, _⟩ => ⟨S2x1x1x2048, .i32⟩
  | .hbm, ⟨48, _⟩ => ⟨S2x2048, .i32⟩
  | .hbm, ⟨49, _⟩ => ⟨S2x2048, .f32⟩
  | .hbm, ⟨50, _⟩ => ⟨S2x2048x1, .f32⟩
  | .hbm, ⟨51, _⟩ => ⟨S1x1x64, .f32⟩
  | .hbm, ⟨52, _⟩ => ⟨S2x2048x64, .f32⟩
  | .hbm, ⟨53, _⟩ => ⟨S2x2048x64, .f32⟩
  | .hbm, ⟨54, _⟩ => ⟨S2x2048x64, .f32⟩
  | .hbm, ⟨55, _⟩ => ⟨S2x2048x64x2, .f32⟩
  | .hbm, ⟨56, _⟩ => ⟨S2x2048x128, .f32⟩
  | .hbm, ⟨57, _⟩ => ⟨S2x2048x128, .f32⟩
  | .hbm, ⟨58, _⟩ => ⟨S2x1x1x2048x128, .f32⟩
  | .hbm, ⟨59, _⟩ => ⟨S2x2048x128, .f32⟩
  | .hbm, ⟨60, _⟩ => ⟨S2x1x1x2048x128, .f32⟩
  | .hbm, ⟨61, _⟩ => ⟨S2x1x1x4096x128, .f32⟩
  | .hbm, ⟨62, _⟩ => ⟨S2x1x1x4096x128, .f32⟩
  | .hbm, ⟨63, _⟩ => ⟨S2x8x4x4096x128, .f32⟩
  | .hbm, ⟨64, _⟩ => ⟨S2x8x4x4096x128, .f32⟩
  | .hbm, ⟨65, _⟩ => ⟨S2x8x4x4096x64, .f32⟩
  | .hbm, ⟨66, _⟩ => ⟨S2x8x4x4096x64, .f32⟩
  | .hbm, ⟨67, _⟩ => ⟨S2x8x4x4096x64, .f32⟩
  | .hbm, ⟨68, _⟩ => ⟨S2x8x4x4096x64x1, .f32⟩
  | .hbm, ⟨69, _⟩ => ⟨S2x8x4x4096x64x1, .f32⟩
  | .hbm, ⟨70, _⟩ => ⟨S2x8x4x4096x64x2, .f32⟩
  | .hbm, ⟨71, _⟩ => ⟨S2x8x4x4096x128, .f32⟩
  | .hbm, ⟨72, _⟩ => ⟨S2x8x4x4096x128, .f32⟩
  | .hbm, ⟨73, _⟩ => ⟨S2x8x4x4096x128, .f32⟩
  | .hbm, ⟨74, _⟩ => ⟨S2x8x4x4096x128, .f32⟩
  | _, _ => ⟨S2x8x4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_5 : Ref sig .tc := ⟨.hbm, 38, rfl⟩
abbrev main_v29 : Ref sig .tc := ⟨.hbm, 39, rfl⟩
abbrev main_v30 : Ref sig .tc := ⟨.hbm, 40, rfl⟩
abbrev main_c_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩

abbrev nD : Nat := 1
abbrev τ : Topo := Topo.v7x

variable {F : FTy → Type} [FloatOps F]
-- ==== Proof.Rope.lean ====
module

public import Idealize.ShloMosaic.Lib.Pointwise

@[expose] public section

noncomputable section

/-! The rotation itself, as mathematics: the frequency of a lane, the angle of a position at a lane, the partner of a
    lane, and the two facts about them on which the kernel and the reference meet. -/

namespace Cert.Rope

open Idealize.ShloMosaic

/-! ## Constants of the two programs -/

/-- The pattern of 10000.0 denotes 10000. -/
theorem ofBits_base : Ideal.ofBits .f32 0x461C4000#32 = ((10000 : ℝ) : EReal) := by
  simp [Ideal.ofBits, Ideal.ieee, -EReal.coe_mul]; norm_num

/-- The pattern of 0.0078125 denotes 1/128. -/
theorem ofBits_inv_width : Ideal.ofBits .f32 0x3C000000#32 = ((1 / 128 : ℝ) : EReal) := by
  simp [Ideal.ofBits, Ideal.ieee, -EReal.coe_mul]; norm_num

/-- The pattern of 128.0 denotes 128. -/
theorem ofBits_width : Ideal.ofBits .f32 0x43000000#32 = ((128 : ℝ) : EReal) := by
  simp [Ideal.ofBits, Ideal.ieee, -EReal.coe_mul]; norm_num

/-- The pattern of 2.0 denotes 2. -/
theorem ofBits_two : Ideal.ofBits .f32 0x40000000#32 = ((2 : ℝ) : EReal) := by
  simp [Ideal.ofBits, Ideal.ieee, -EReal.coe_mul]; norm_num

/-- The pattern of -1.0 denotes -1. -/
theorem ofBits_neg_one : Ideal.ofBits .f32 0xBF800000#32 = ((-1 : ℝ) : EReal) := by
  simp [Ideal.ofBits, Ideal.ieee, -EReal.coe_mul]; norm_num

/-! ## Frequencies and angles -/

/-- The frequency of the pair `k` of lanes: `1 / 10000 ^ (2 k / 128)`. -/
def freq (k : ℕ) : ℝ := 1 / (10000 : ℝ) ^ ((2 * k : ℝ) / 128)

/-- The angle by which position `p` turns lane `j`: the position, read as a signed integer, times the frequency of the
    lane's pair. -/
def angle (p : BitVec 32) (j : Fin 128) : ℝ := (p.toInt : ℝ) * freq (j.val / 2)

/-- The other lane of the lane's pair. -/
def partner (j : Fin 128) : Fin 128 := ⟨j.val ^^^ 1, Nat.xor_lt_two_pow (n := 7) j.isLt (by decide)⟩

/-- One element of the rotated array: `x` is the element, `y` the one in its partner lane, and the partner enters
    negated on the even lanes. -/
def turned (p : BitVec 32) (j : Fin 128) (x y : EReal) : EReal :=
  (Real.cos (angle p j) : EReal) * x + (Real.sin (angle p j) : EReal) * (if j.val % 2 = 0 then -y else y)

/-- The kernel's frequency, the exponential of minus the logarithm of 10000 times `2 k` times 1/128, is `freq k`. -/
theorem exp_freq (k : ℕ) :
    Ideal.exp ((0 - Ideal.log ((10000 : ℝ) : EReal)) * (((2 * k : ℝ) : EReal) * ((1 / 128 : ℝ) : EReal)))
      = (freq k : EReal) := by
  have hl : Ideal.log ((10000 : ℝ) : EReal) = ((Real.log 10000 : ℝ) : EReal) := by
    show (if (10000 : ℝ) ≤ 0 then (⊥ : EReal) else (Real.log 10000 : EReal)) = _
    rw [if_neg (by norm_num)]
  have hz : (0 : EReal) = ((0 : ℝ) : EReal) := rfl
  rw [hl, hz, ← EReal.coe_sub, ← EReal.coe_mul, ← EReal.coe_mul]
  show ((Real.exp _ : ℝ) : EReal) = _
  congr 1
  unfold freq
  rw [Real.rpow_def_of_pos (by norm_num), one_div (Real.exp _), ← Real.exp_neg]
  congr 1
  ring

/-- The reference's frequency, one over the power of 10000 to `2 k` over 128, is `freq k`. -/
theorem pow_freq (k : ℕ) :
    Ideal.div 1 (Ideal.pow ((10000 : ℝ) : EReal) (Ideal.div ((2 * k : ℝ) : EReal) ((128 : ℝ) : EReal)))
      = (freq k : EReal) := by
  have hd : Ideal.div ((2 * k : ℝ) : EReal) ((128 : ℝ) : EReal) = (((2 * k : ℝ) / 128 : ℝ) : EReal) := by
    unfold Ideal.div
    rw [if_neg (by norm_cast), ← EReal.coe_inv, ← EReal.coe_mul, div_eq_mul_inv]
  have hp : Ideal.pow ((10000 : ℝ) : EReal) (((2 * k : ℝ) / 128 : ℝ) : EReal)
      = (((10000 : ℝ) ^ ((2 * k : ℝ) / 128) : ℝ) : EReal) := rfl
  have hpos : (0 : ℝ) < (10000 : ℝ) ^ ((2 * k : ℝ) / 128) := Real.rpow_pos_of_pos (by norm_num) _
  rw [hd, hp]
  unfold Ideal.div freq
  rw [if_neg (by exact_mod_cast hpos.ne'), ← EReal.coe_inv, one_mul, one_div]

/-! ## The partner's turn -/

/-- Multiplying the sine by minus one on the even lanes and by one on the odd lanes is negating the partner there. -/
theorem signed_sin (j : Fin 128) (s : ℝ) (y : EReal) :
    (if j.val % 2 = 0 then ((-1 : ℝ) : EReal) else 1) * (s : EReal) * y
      = (s : EReal) * (if j.val % 2 = 0 then -y else y) := by
  split
  · rw [← EReal.coe_mul, neg_one_mul, EReal.coe_neg, neg_mul, mul_neg]
  · rw [one_mul]

/-- A row times the table that has a one where the row's lane is the partner of the column's, and zeros elsewhere, is the
    partner's element, infinite or not. -/
theorem sum_partner (f : Fin 128 → EReal) (j : Fin 128) :
    ∑ k : Fin 128, f k * (if partner k = j then (1 : EReal) else 0) = f (partner j) := by
  have hk : ∀ a b : Fin 128, partner a = b ↔ a = partner b := by decide +kernel
  simp only [hk, mul_ite, mul_one, mul_zero, Finset.sum_ite_eq', Finset.mem_univ, if_true]

end Cert.Rope

end
-- ==== Proof.Payload.lean ====
module

public import proofs.«01_k».proof.Proof.Gen.KernelIdeal.Skeleton
public import proofs.«01_k».proof.Proof.Rope

@[expose] public section

set_option maxRecDepth 16384

noncomputable section

/-! What the values of the kernel's body are at an index, over the extended reals: the two tables that the first point of
    a sequence stores, and one head's rotated block. -/

namespace Cert.KernelIdeal.Payload

open Cert.KernelIdeal Cert.KernelIdeal.Gen Idealize.ShloMosaic Cert.Rope

/-! ## The lane's words -/

/-- The body's floor division of the lane by two, times two, is the lane with its last bit cleared. -/
theorem even_lane : ∀ j : Fin 128,
    IntOp.muli
      (Scalar.select
        (IntOp.andi
          (IntOp.cmpi .ne
            (IntOp.subi (BitVec.setWidth 32 (IntOp.cmpi .sgt (BitVec.ofNat 32 j.val) 0#32))
              (BitVec.setWidth 32 (IntOp.cmpi .slt (BitVec.ofNat 32 j.val) 0#32)))
            (Scalar.subi (Scalar.extui (Scalar.cmpi .sgt 2#32 0#32)) (Scalar.extui (Scalar.cmpi .slt 2#32 0#32))))
          (IntOp.cmpi .ne (IntOp.remsi .vector (BitVec.ofNat 32 j.val) 2#32) 0#32))
        (IntOp.subi (IntOp.divsi .vector (BitVec.ofNat 32 j.val) 2#32) 1#32)
        (IntOp.divsi .vector (BitVec.ofNat 32 j.val) 2#32))
      2#32 = BitVec.ofNat 32 (2 * (j.val / 2)) := by decide +kernel

/-- The body's test of the lane's remainder modulo two against zero answers whether the lane is even. -/
theorem lane_parity : ∀ j : Fin 128,
    IntOp.cmpi .eq
      (Scalar.select
        (IntOp.andi
          (IntOp.xori
            (IntOp.cmpi .slt
              (IntOp.remsi .vector (BitVec.ofNat 32 j.val) (Scalar.select (Scalar.cmpi .eq 2#32 0#32) 1#32 2#32)) 0#32)
            (Scalar.cmpi .slt (Scalar.select (Scalar.cmpi .eq 2#32 0#32) 1#32 2#32) 0#32))
          (IntOp.cmpi .ne
            (IntOp.remsi .vector (BitVec.ofNat 32 j.val) (Scalar.select (Scalar.cmpi .eq 2#32 0#32) 1#32 2#32)) 0#32))
        (IntOp.addi
          (IntOp.remsi .vector (BitVec.ofNat 32 j.val) (Scalar.select (Scalar.cmpi .eq 2#32 0#32) 1#32 2#32))
          (Scalar.select (Scalar.cmpi .eq 2#32 0#32) 1#32 2#32))
        (IntOp.remsi .vector (BitVec.ofNat 32 j.val) (Scalar.select (Scalar.cmpi .eq 2#32 0#32) 1#32 2#32)))
      0#32 = BitVec.ofBool (decide (j.val % 2 = 0)) := by decide +kernel

/-- The word of the lane with its last bit cleared, read as a real. -/
theorem lane_real (j : Fin 128) :
    (((BitVec.ofNat 32 (2 * (j.val / 2))).toInt : ℝ) : EReal) = ((2 * (j.val / 2 : ℕ) : ℝ) : EReal) := by
  have h : ∀ j : Fin 128, (BitVec.ofNat 32 (2 * (j.val / 2))).toInt = ((2 * (j.val / 2) : ℕ) : ℤ) := by decide +kernel
  rw [h j]
  push_cast
  rfl

/-! ## The tables -/

/-- The angle that the body computes for row `r` of the positions and lane `j`. -/
theorem angle_apply (p : Vec Ideal S1x1x4096 .i32) (r : Fin 4096) (j : Fin 128) :
    k0_pay3 (F := Ideal) p (ix2 r j) = (angle (p (ix3 0 0 r)) j : EReal) := by
  pointwise [k0_pay3]
  rw [even_lane j, ofBits_base, ofBits_inv_width]
  change ((((p (ix3 0 0 r)).toInt : ℝ) : EReal)
    * Ideal.exp ((0 - Ideal.log ((10000 : ℝ) : EReal))
        * ((((BitVec.ofNat 32 (2 * (j.val / 2))).toInt : ℝ) : EReal) * ((1 / 128 : ℝ) : EReal)))) = _
  rw [lane_real, exp_freq, ← EReal.coe_mul]
  rfl

/-- The stored table of cosines. -/
theorem cos_apply (p : Vec Ideal S1x1x4096 .i32) (r : Fin 4096) (j : Fin 128) :
    k0_pay5 (F := Ideal) (k0_pay4 p) (ix2 r j) = (Real.cos (angle (p (ix3 0 0 r)) j) : EReal) := by
  pointwise [k0_pay4, k0_pay5]
  rw [angle_apply]
  rfl

/-- The stored table of sines, negated on the even lanes. -/
theorem sin_apply (p : Vec Ideal S1x1x4096 .i32) (r : Fin 4096) (j : Fin 128) :
    k0_pay6 (F := Ideal) (iota .tc S4096x128 32 [1] iota_S4096x128_d1_w32) (k0_pay3 p) (ix2 r j)
      = (if j.val % 2 = 0 then ((-1 : ℝ) : EReal) else 1) * (Real.sin (angle (p (ix3 0 0 r)) j) : EReal) := by
  pointwise [k0_pay6]
  rw [lane_parity j, angle_apply, ofBits_neg_one]
  by_cases h : j.val % 2 = 0 <;> simp only [h, decide_true, decide_false, if_true, if_false] <;> rfl

/-! ## One head's block -/

/-- A head's rotated block, as the body computes it from the two tables, the table of partners and the head's block. -/
def head (C S : FVec Ideal S4096x128 .f32) (P : FVec Ideal S128x128 .f32) (X : FVec Ideal S1x1x4096x128 .f32)
    (r : Fin 4096) (j : Fin 128) : EReal :=
  C (ix2 r j) * X (ix4 0 0 r j) + S (ix2 r j) * ∑ k : Fin 128, X (ix4 0 0 r k) * P (ix2 k j)

/-- What the body stores for the first of its four heads, at a row and a lane. -/
theorem head0_apply (C S : Vec Ideal S4096x128 .f32) (P : FVec Ideal S128x128 .f32) (X : Vec Ideal S1x1x4096x128 .f32)
    (r : Fin 4096) (j : Fin 128) : k0_pay8 C S P X (ix4 0 0 r j) = head C S P X r j := by
  pointwise [k0_pay8, k0_pay7, head]

/-- What the body stores for the second of its four heads, at a row and a lane. -/
theorem head1_apply (C S : Vec Ideal S4096x128 .f32) (P : FVec Ideal S128x128 .f32) (X : Vec Ideal S1x1x4096x128 .f32)
    (r : Fin 4096) (j : Fin 128) : k0_pay9 C S P X (ix4 0 0 r j) = head C S P X r j := by
  pointwise [k0_pay9, k0_pay7, head]

/-- What the body stores for the third of its four heads, at a row and a lane. -/
theorem head2_apply (C S : Vec Ideal S4096x128 .f32) (P : FVec Ideal S128x128 .f32) (X : Vec Ideal S1x1x4096x128 .f32)
    (r : Fin 4096) (j : Fin 128) : k0_pay1 C S (k0_pay7 P) X (ix4 0 0 r j) = head C S P X r j := by
  pointwise [k0_pay1, k0_pay7, head]

/-- What the body stores for the fourth of its four heads, at a row and a lane. -/
theorem head3_apply (C S : Vec Ideal S4096x128 .f32) (P : FVec Ideal S128x128 .f32) (X : Vec Ideal S1x1x4096x128 .f32)
    (r : Fin 4096) (j : Fin 128) : k0_pay2 C S (k0_pay7 P) X (ix4 0 0 r j) = head C S P X r j := by
  pointwise [k0_pay2, k0_pay7, head]

end Cert.KernelIdeal.Payload

end
-- ==== Proof.Block.lean ====
module

public import proofs.«01_k».proof.Proof.Gen.KernelIdeal.Frame
public import proofs.«01_k».proof.Proof.Payload
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

/-! What one point of the grid leaves: the two tables it keeps for the points after it, and its block of four heads. -/

namespace Cert.KernelIdeal.Block

open Cert.KernelIdeal Cert.KernelIdeal.Gen Cert.KernelIdeal.Payload Idealize.ShloMosaic Idealize.ShloMosaic.TcCoe
open Idealize.SL.Sem Cert.Rope

variable (m : (ℓ : Loc nD τ sig) → Buf (Elt Ideal) ℓ)

/-- The table of cosines after a point is the one that the first point of its sequence computed. -/
theorem cos_table (c : Dev nD) (t : Fin cfg0.N) (r : Fin 4096) (j : Fin 128) :
    (outsAt0 m c t.val t.isLt).2.1 (ix2 r j)
      = (Real.cos (angle (iblk m c 0 ⟨8 * (t.val / 8), Pipeline.run_start_lt t⟩ (ix3 0 0 r)) j) : EReal) := by
  rw [Pipeline.eq_of_write_hold_apply (fun n h => (outsAt0 m c n h).2.1) 8
    (fun t => k0_pay5 (F := Ideal) (k0_pay4 (iblk m c 0 t)))
    (fun t h x => by rw [outsAt0_A m c t h]; frame_out)
    (fun t h x => by rw [outsAt0_B m c t h]; rfl) t (ix2 r j)]
  exact cos_apply _ r j

/-- The table of signed sines after a point is the one that the first point of its sequence computed. -/
theorem sin_table (c : Dev nD) (t : Fin cfg0.N) (r : Fin 4096) (j : Fin 128) :
    (outsAt0 m c t.val t.isLt).2.2 (ix2 r j)
      = (if j.val % 2 = 0 then ((-1 : ℝ) : EReal) else 1)
        * (Real.sin (angle (iblk m c 0 ⟨8 * (t.val / 8), Pipeline.run_start_lt t⟩ (ix3 0 0 r)) j) : EReal) := by
  rw [Pipeline.eq_of_write_hold_apply (fun n h => (outsAt0 m c n h).2.2) 8
    (fun t => k0_pay6 (F := Ideal) (iota .tc S4096x128 32 [1] iota_S4096x128_d1_w32) (k0_pay3 (iblk m c 0 t)))
    (fun t h x => by rw [outsAt0_A m c t h]; frame_out)
    (fun t h x => by rw [outsAt0_B m c t h]; rfl) t (ix2 r j)]
  exact sin_apply _ r j

/-- A load of head `o` of the block is the block at head `o`. -/
theorem ld_head (X : Vec Ideal S1x4x4096x128 .f32) (o : ℕ) (ho : o < 4) (hb) :
    View.ld X (Rect.unit ![0, o, 0, 0] ![1, 1, 4096, 128] hb) = fun i => X (ix4 0 ⟨o, ho⟩ (i 2) (i 3)) := by
  funext i
  show X ((Rect.unit ![0, o, 0, 0] ![1, 1, 4096, 128] hb).emb i) = _
  congr 1
  funext a
  have h0 : (i 0).val < 1 := (i 0).isLt
  have h1 : (i 1).val < 1 := (i 1).isLt
  apply Fin.ext
  match a with
  | ⟨0, _⟩ => show 0 + 1 * (i 0).val = 0; omega
  | ⟨1, _⟩ => show o + 1 * (i 1).val = o; omega
  | ⟨2, _⟩ => show 0 + 1 * (i 2).val = (i 2).val; omega
  | ⟨3, _⟩ => show 0 + 1 * (i 3).val = (i 3).val; omega

/-- The four stores of a point, one head each, read back: head `h` of the block is the rotated head `h`. -/
theorem heads (C S : Vec Ideal S4096x128 .f32) (P : FVec Ideal S128x128 .f32) (X : Vec Ideal S1x4x4096x128 .f32)
    (h : Fin 4) (r : Fin 4096) (j : Fin 128) :
    View.canon (Val := Elt Ideal) (s := S1x4x4096x128) (e := .f32)
      [⟨Rect.unit ![0, 3, 0, 0] ![1, 1, 4096, 128] inb_S1x4x4096x128_S1x1x4096x128_0_3_0_0,
          k0_pay2 C S (k0_pay7 P)
            (View.ld X (Rect.unit ![0, 3, 0, 0] ![1, 1, 4096, 128] inb_S1x4x4096x128_S1x1x4096x128_0_3_0_0))⟩,
        ⟨Rect.unit ![0, 2, 0, 0] ![1, 1, 4096, 128] inb_S1x4x4096x128_S1x1x4096x128_0_2_0_0,
          k0_pay1 C S (k0_pay7 P)
            (View.ld X (Rect.unit ![0, 2, 0, 0] ![1, 1, 4096, 128] inb_S1x4x4096x128_S1x1x4096x128_0_2_0_0))⟩,
        ⟨Rect.unit ![0, 1, 0, 0] ![1, 1, 4096, 128] inb_S1x4x4096x128_S1x1x4096x128_0_1_0_0,
          k0_pay9 C S P
            (View.ld X (Rect.unit ![0, 1, 0, 0] ![1, 1, 4096, 128] inb_S1x4x4096x128_S1x1x4096x128_0_1_0_0))⟩,
        ⟨Rect.unit ![0, 0, 0, 0] ![1, 1, 4096, 128] inb_S1x4x4096x128_S1x1x4096x128_0_0_0_0,
          k0_pay8 C S P
            (View.ld X (Rect.unit ![0, 0, 0, 0] ![1, 1, 4096, 128] inb_S1x4x4096x128_S1x1x4096x128_0_0_0_0))⟩]
      (ix4 0 h r j)
      = C (ix2 r j) * X (ix4 0 h r j) + S (ix2 r j) * ∑ k : Fin 128, X (ix4 0 h r k) * P (ix2 k j) := by
  canon_tiles x h
  · change h.val = 3 + (x 1).val at h1
    change r.val = (x 2).val at h2
    change j.val = (x 3).val at h3
    obtain rfl : x = ix4 0 0 r j := by blk_ext
    obtain rfl : h = ⟨3, by decide⟩ := by apply Fin.ext; dsimp only; omega
    rw [ld_head X 3 (by decide), head3_apply, head]
    rfl
  · change h.val = 2 + (x 1).val at h1
    change r.val = (x 2).val at h2
    change j.val = (x 3).val at h3
    obtain rfl : x = ix4 0 0 r j := by blk_ext
    obtain rfl : h = ⟨2, by decide⟩ := by apply Fin.ext; dsimp only; omega
    rw [ld_head X 2 (by decide), head2_apply, head]
    rfl
  · change h.val = 1 + (x 1).val at h1
    change r.val = (x 2).val at h2
    change j.val = (x 3).val at h3
    obtain rfl : x = ix4 0 0 r j := by blk_ext
    obtain rfl : h = ⟨1, by decide⟩ := by apply Fin.ext; dsimp only; omega
    rw [ld_head X 1 (by decide), head1_apply, head]
    rfl
  · change h.val = (x 1).val at h1
    change r.val = (x 2).val at h2
    change j.val = (x 3).val at h3
    obtain rfl : x = ix4 0 0 r j := by blk_ext
    obtain rfl : h = ⟨0, by decide⟩ := by apply Fin.ext; dsimp only; omega
    rw [ld_head X 0 (by decide), head0_apply, head]
    rfl

/-- A point's table of partners, as the launch hands it over. -/
abbrev perm (c : Dev nD) (t : Fin cfg0.N) : FVec Ideal S128x128 .f32 := iblk m c 1 t

/-- A point's four heads, as the launch hands them over. -/
abbrev x (c : Dev nD) (t : Fin cfg0.N) : Vec Ideal S1x4x4096x128 .f32 := iblk m c 2 t

/-- A point's block, from the tables that stand after the point: an element is the cosine times the array's element plus
    the signed sine times the product of the array's row with the table of partners. -/
theorem block_apply (c : Dev nD) (t : Fin cfg0.N) (h : Fin 4) (r : Fin 4096) (j : Fin 128) :
    (outsAt0 m c t.val t.isLt).1 (ix4 0 h r j)
      = (outsAt0 m c t.val t.isLt).2.1 (ix2 r j) * x m c t (ix4 0 h r j)
        + (outsAt0 m c t.val t.isLt).2.2 (ix2 r j)
          * ∑ k : Fin 128, x m c t (ix4 0 h r k) * perm m c t (ix2 k j) := by
  by_cases h0 : t.val % 8 = 0
  · have hc : (outsAt0 m c t.val t.isLt).2.1 = k0_pay5 (F := Ideal) (k0_pay4 (iblk m c 0 t)) := by
      funext x; rw [outsAt0_A m c t h0]; frame_out
    have hs : (outsAt0 m c t.val t.isLt).2.2
        = k0_pay6 (F := Ideal) (iota .tc S4096x128 32 [1] iota_S4096x128_d1_w32) (k0_pay3 (iblk m c 0 t)) := by
      funext x; rw [outsAt0_A m c t h0]; frame_out
    rw [hc, hs, outsAt0_A m c t h0]
    frame_out
    exact heads _ _ _ _ h r j
  · rw [outsAt0_B m c t h0]
    frame_out
    rw [read_unread_whole, read_unread_whole]
    exact heads _ _ _ _ h r j

end Cert.KernelIdeal.Block

end
-- ==== Proof.Entry.lean ====
module

public import proofs.«01_k».proof.Proof.Gen.KernelIdeal.Frame
public import proofs.«01_k».proof.Proof.Rope
public import Idealize.ShloMosaic.Lib.Pipeline.ValueKit
public import Idealize.ShloMosaic.Lib.StableHlo.ReadAt

@[expose] public section

set_option maxRecDepth 16384

noncomputable section

/-! What the operations before the launch leave in the three arrays that the launch reads. -/

namespace Cert.KernelIdeal.Entry

open Cert.KernelIdeal Cert.KernelIdeal.Gen Idealize.ShloMosaic Idealize.ShloMosaic.TcCoe Idealize.SL.Sem Cert.Rope

variable (m : (ℓ : Loc nD τ sig) → Buf (Elt Ideal) ℓ)

/-- The array's two axes of heads are one in the launch's array: head `h` there is group `h / 4`, head `h % 4`. -/
theorem x_apply (c : Dev nD) (b : Fin 2) (h : Fin 32) (r : Fin 4096) (j : Fin 128) :
    V m c main_call0_v0 (ix4 b h r j)
      = m ((c.tc : Thread nD τ).loc main_arg0) (ix5 b ⟨h.val / 4, by omega⟩ ⟨h.val % 4, by omega⟩ r j) := by
  entry_read
  after_reads_at

/-- The positions, their unit axes dropped. -/
theorem pos_apply (c : Dev nD) (b : Fin 2) (r : Fin 4096) :
    V m c main_call0_v1 (ix3 b 0 r) = m ((c.tc : Thread nD τ).loc main_arg1) (ix4 b 0 0 r) := by
  entry_read
  after_reads_at

/-- The table of partners: one where the row is the partner of the column, zero elsewhere. -/
theorem perm_apply (c : Dev nD) (k j : Fin 128) :
    V m c main_call0_v10 (ix2 k j) = if partner k = j then (1 : EReal) else 0 := by
  entry_read
  after_reads_at
  have h : ∀ k j : Fin 128, IntOp.cmpi .eq (IntOp.xori (BitVec.ofNat 32 k.val) 1#32) (BitVec.ofNat 32 j.val)
      = BitVec.ofBool (decide (partner k = j)) := by decide +kernel
  rw [h k j]
  by_cases e : partner k = j
  · simp only [e, decide_true, if_true]
    show (((1 : ℕ) : ℝ) : EReal) = 1
    norm_num
  · simp only [e, decide_false, if_false]
    show (((0 : ℕ) : ℝ) : EReal) = 0
    norm_num

end Cert.KernelIdeal.Entry

end
-- ==== Proof.Final.lean ====
module

public import proofs.«01_k».proof.Proof.Block
public import proofs.«01_k».proof.Proof.Entry
public import Idealize.ShloMosaic.Lib.Claim
public import Idealize.ShloMosaic.Lib.Pipeline.ValueKit
public import Idealize.ShloMosaic.Lib.StableHlo.ReadAt

@[expose] public section

set_option maxRecDepth 16384

noncomputable section

/-! What the kernel's program leaves in its result. -/

namespace Cert.KernelIdeal.Final

open Cert.KernelIdeal Cert.KernelIdeal.Gen Cert.KernelIdeal.Block Cert.KernelIdeal.Entry
open Idealize.ShloMosaic Idealize.ShloMosaic.TcCoe Idealize.SL.Sem Idealize.ShloMosaic.StableHlo Cert.Rope

variable (m : (ℓ : Loc nD τ sig) → Buf (Elt Ideal) ℓ) (ρ : Dev nD → PrngReg)

/-- The positions, the argument `seq_id`. -/
abbrev pos (c : Dev nD) : IVec S2x1x1x4096 32 := m ((c.tc : Thread nD τ).loc main_arg1)

/-- The array to be rotated, the argument `x`. -/
abbrev arr (c : Dev nD) : FVec Ideal S2x8x4x4096x128 .f32 := m ((c.tc : Thread nD τ).loc main_arg0)

/-! ## Where a point's blocks lie: point `t` has sequence `t / 8` and the four heads from `4 (t mod 8)` on -/

/-- A point takes the positions of its sequence. -/
theorem idx_pos : ∀ t : Fin cfg0.N, win0_0.index t = ![t.val / 8, 0, 0] := by decide +kernel
/-- Every point takes the whole table of partners. -/
theorem idx_perm : ∀ t : Fin cfg0.N, win0_1.index t = ![0, 0] := by decide +kernel
/-- A point takes its sequence and its four heads of the array. -/
theorem idx_x : ∀ t : Fin cfg0.N, win0_2.index t = ![t.val / 8, t.val % 8, 0, 0] := by decide +kernel
/-- A point writes its sequence and its four heads of the result. -/
theorem idx_out : ∀ t : Fin cfg0.N, win0_3.index t = ![t.val / 8, t.val % 8, 0, 0] := by decide +kernel

/-- A point's sequence. -/
def seqOf (t : Fin cfg0.N) : Fin 2 := ⟨t.val / 8, by have := lt_of_lt_of_eq t.isLt (show cfg0.N = 16 from N_0); omega⟩

/-- A point's head of the array. -/
def headOf (t : Fin cfg0.N) (h : Fin 4) : Fin 32 := ⟨4 * (t.val % 8) + h.val, by omega⟩

/-- The block of positions at row `r` is the position of the point's sequence there. -/
theorem pos_block (c : Dev nD) (t : Fin cfg0.N) (r : Fin 4096) :
    iblk m c 0 t (ix3 0 0 r) = pos m c (ix4 (seqOf t) 0 0 r) := by
  refine Eq.trans ?_ (pos_apply m c (seqOf t) r)
  blk_ext [iblk, idx_pos t, seqOf]

/-- The block of the table of partners has a one where a row is the partner of the column, and zeros elsewhere. -/
theorem perm_block (c : Dev nD) (t : Fin cfg0.N) (k j : Fin 128) :
    perm m c t (ix2 k j) = if partner k = j then (1 : EReal) else 0 := by
  rw [← perm_apply m c k j]
  blk_ext [perm, iblk, idx_perm t]

/-- The block of the array at head `h` is the array at the point's sequence and head. -/
theorem x_block (c : Dev nD) (t : Fin cfg0.N) (h : Fin 4) (r : Fin 4096) (j : Fin 128) :
    x m c t (ix4 0 h r j) = V m c main_call0_v0 (ix4 (seqOf t) (headOf t h) r j) := by
  blk_ext [x, iblk, idx_x t, seqOf, headOf]

/-- The launch's result at sequence `b`, head `h`, row `r`, lane `j`. -/
def launched (c : Dev nD) (b : Fin 2) (h : Fin 32) (r : Fin 4096) (j : Fin 128) : EReal :=
  turned (pos m c (ix4 b 0 0 r)) j (V m c main_call0_v0 (ix4 b h r j)) (V m c main_call0_v0 (ix4 b h r (partner j)))

/-- A point's block, over the arguments. -/
theorem out_block (c : Dev nD) (t : Fin cfg0.N) (h : Fin 4) (r : Fin 4096) (j : Fin 128) :
    (outsAt0 m c t.val t.isLt).1 (ix4 0 h r j) = launched m c (seqOf t) (headOf t h) r j := by
  have hs : seqOf ⟨8 * (t.val / 8), Pipeline.run_start_lt t⟩ = seqOf t := by
    apply Fin.ext; simp only [seqOf]; omega
  rw [block_apply, cos_table, sin_table, pos_block, hs]
  simp only [perm_block, x_block]
  rw [sum_partner (fun k => V m c main_call0_v0 (ix4 (seqOf t) (headOf t h) r k)) j, signed_sin]
  rfl

/-- The launch's result array. -/
theorem final (c : Dev nD) :
    (dats m 0 c).arrAt 3 cfg0.N = fun i => launched m c (i 0) (i 1) (i 2) (i 3) := by
  refine (dats m 0 c).arrAt_eq_of_covers 3 _ (by decide +kernel) fun t hf y => ?_
  blk_simp
  rw [after0_3]
  have hy : y = ix4 (0 : Fin 1) (y 1) (y 2) (y 3) := by blk_ext
  refine (congrArg (outsAt0 m c t.val t.isLt).1 hy).trans ((out_block m c t (y 1) (y 2) (y 3)).trans ?_)
  have b0 : (y 0).val < 1 := (y 0).isLt
  congr 1 <;> apply Fin.ext <;> blk_simp [idx_out t, seqOf, headOf]
  dsimp only
  omega

/-- The kernel's result, over the arguments. -/
def result (c : Dev nD) : FVec Ideal S2x8x4x4096x128 .f32 := fun i =>
  turned (pos m c (ix4 (i 0) 0 0 (i 3))) (i 4) (arr m c (ix5 (i 0) (i 1) (i 2) (i 3) (i 4)))
    (arr m c (ix5 (i 0) (i 1) (i 2) (i 3) (partner (i 4))))

/-- The launch's result at head `4 a + b` is the kernel's result at group `a`, head `b`. -/
theorem launched_result (c : Dev nD) (b : Fin 2) (g : Fin 8) (h : Fin 4) (r : Fin 4096) (j : Fin 128) :
    launched m c b ⟨g.val * 4 + h.val, by omega⟩ r j = result m c (ix5 b g h r j) := by
  have hg : (⟨(g.val * 4 + h.val) / 4, by omega⟩ : Fin 8) = g := by apply Fin.ext; dsimp only; omega
  have hh : (⟨(g.val * 4 + h.val) % 4, by omega⟩ : Fin 4) = h := by apply Fin.ext; dsimp only; omega
  rw [launched, x_apply, x_apply]
  dsimp only
  rw [hg, hh]
  rfl

/-- The kernel's program ends with `result` in its result and its arguments as they were. -/
theorem run :
    θ_run (defs (F := Ideal)) (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from Cert.KernelIdeal.Gen.run_main m ρ
  · unfold Pipeline.afterTail₀
    funext i
    idx_vars i
    unfold_abbrev_sides
    after_reads_at
    have hinj : Function.Injective (Pipeline.arrRef spec0) := by decide +kernel
    refine (congrFun (Pipeline.withArrays_arr spec0 hinj c (V0 m c) (fun w => (dats m 0 c).arrAt w cfg0.N) 3) _).trans ?_
    rw [final]
    exact launched_result m c i0 i1 i2 i3 i4
  · exact W_main_arg0 m (dats m) c
  · exact W_main_arg1 m (dats m) c

end Cert.KernelIdeal.Final

end
-- ==== Proof.Reference.lean ====
module

public import proofs.«01_k».proof.Proof.Gen.ReferenceIdeal.Read
public import proofs.«01_k».proof.Proof.Rope
public import Idealize.ShloMosaic.Lib.Pointwise
public import Idealize.ShloMosaic.Lib.Tactic.WordOmega

@[expose] public section

set_option maxRecDepth 16384

noncomputable section

/-! What the reference's arrays hold at an index, over the extended reals. -/

namespace Cert.ReferenceIdeal.At

open Cert.ReferenceIdeal Cert.ReferenceIdeal.Gen Cert.ReferenceIdeal.Read Idealize.ShloMosaic Cert.Rope

/-! ## The angles -/

/-- A number below `2 ^ 31`, as a word read signed and made real, is itself. -/
theorem real_word (n : ℕ) (h : n < 2 ^ 31) :
    (FloatOps.sitofp (F := Ideal) .f32 (BitVec.ofNat 32 n)) = ((n : ℝ) : EReal) := by
  have hi : (BitVec.ofNat 32 n).toInt = (n : ℤ) := by word_omega
  show (((BitVec.ofNat 32 n).toInt : ℝ) : EReal) = _
  rw [hi]
  norm_cast

/-- The reference's frequency of the pair `k` of lanes. -/
theorem freq_apply (k : Fin 64) : val_main_v10 (F := Ideal) (ix1 k) = (freq k.val : EReal) := by
  pointwise [val_main_v10, val_main_v9, val_main_v8, val_main_v7, val_main_v6, val_main_v5, val_main_v4, val_main_v3, val_main_v2, val_main_v1, val_main_v0, val_main_cst, val_main_cst_0, val_main_cst_1, val_main_cst_2, val_main_cst_3]
  rw [ofBits_base, ofBits_two, ofBits_width, real_word _ (by omega), ← EReal.coe_mul]
  exact pow_freq k.val

/-- The table's angle at position `n` and lane `j`. -/
theorem table_apply (n : Fin 8192) (j : Fin 128) :
    val_main_v18 (F := Ideal) (ix2 n j) = (((n.val : ℝ) * freq (j.val / 2) : ℝ) : EReal) := by
  pointwise [val_main_v18, val_main_v17, val_main_v16, val_main_v15, val_main_v14, val_main_v13, val_main_v12, val_main_v11]
  rw [real_word _ (by omega), freq_apply, EReal.coe_mul]

/-- The computed angle of row `s` of the second half. -/
theorem late_apply (p : IVec S2x1x1x4096 32) (b : Fin 2) (s : Fin 2048) (j : Fin 128) :
    val_main_v45 (F := Ideal) p (ix3 b s j) = (angle (p (ix4 b 0 0 ⟨2048 + s.val, by omega⟩)) j : EReal) := by
  pointwise [val_main_v45, val_main_v44, val_main_v43, val_main_v42, val_main_v41, val_main_v40, val_main_v39, val_main_v38, val_main_v37, val_main_v36]
  rw [freq_apply, angle, EReal.coe_mul]
  rfl

/-! ## The lookup -/

/-- A gather of single rows out of an array of 8192 rows reads the row its index word names, when that row exists. -/
theorem gather_apply (x : FVec Ideal S8192x128 .f32) (idx : IVec S2x1x1x2048x1 32) (b : Fin 2) (s : Fin 2048)
    (j : Fin 128) (n : Fin 8192) (hn : (idx (ix5 b 0 0 s 0)).toInt = n.val) :
    Host.gather gather_S8192x128_S2x1x1x2048x1_S2x1x1x2048x128_4_0_n_n_0_4_1128 x idx (ix5 b 0 0 s j) = x (ix2 n j) := by
  refine congrArg x (funext fun a => Fin.ext ?_)
  match a with
  | ⟨0, _⟩ =>
    show min (idx _).toInt.toNat (8192 - 1) + 0 + 0 = n.val
    have hk : ∀ k : S2x1x1x2048x1.Idx, k = ix5 b 0 0 s 0 → min (idx k).toInt.toNat (8192 - 1) + 0 + 0 = n.val := by
      intro k hk
      rw [hk, hn]
      omega
    refine hk _ (funext fun d => Fin.ext ?_)
    match d with
    | ⟨0, _⟩ => rfl
    | ⟨1, _⟩ => rfl
    | ⟨2, _⟩ => rfl
    | ⟨3, _⟩ => rfl
    | ⟨4, _⟩ => rfl
  | ⟨1, _⟩ =>
    show 0 + 0 + j.val = j.val
    omega

/-- A first-half position that is not negative is the index looked up for the cosines: nothing is added to it. -/
theorem row_apply (p : IVec S2x1x1x4096 32) (b : Fin 2) (s : Fin 2048)
    (h : 0 ≤ (p (ix4 b 0 0 ⟨s.val, by omega⟩)).toInt) :
    val_main_v27 (F := Ideal) p (ix5 b 0 0 s 0) = p (ix4 b 0 0 ⟨s.val, by omega⟩) := by
  pointwise [val_main_v27, val_main_v26, val_main_v25, val_main_v24, val_main_v23, val_main_v22, val_main_v21, val_main_c, val_main_c_4]
  word_omega

/-- The indices looked up for the sines are those looked up for the cosines. -/
theorem rows_eq (p : IVec S2x1x1x4096 32) : val_main_v34 (F := Ideal) p = val_main_v27 (F := Ideal) p := rfl

/-! ## The tables of one call -/

/-- The positions of the first half name rows of the table. -/
def InTable (p : IVec S2x1x1x4096 32) : Prop :=
  ∀ (b : Fin 2) (s : Fin 2048), 0 ≤ (p (ix4 b 0 0 ⟨s.val, by omega⟩)).toInt
    ∧ (p (ix4 b 0 0 ⟨s.val, by omega⟩)).toInt < 8192

/-- A row looked up in an array over the table, when the array holds `f` of the table's angle, holds `f` of the
    position's angle. -/
theorem lookup_apply (x : FVec Ideal S8192x128 .f32) (f : ℝ → EReal)
    (hx : ∀ (n : Fin 8192) (j : Fin 128), x (ix2 n j) = f ((n.val : ℝ) * freq (j.val / 2)))
    (p : IVec S2x1x1x4096 32) (hp : InTable p) (b : Fin 2) (s : Fin 2048) (j : Fin 128) :
    Host.gather gather_S8192x128_S2x1x1x2048x1_S2x1x1x2048x128_4_0_n_n_0_4_1128 x (val_main_v27 (F := Ideal) p)
      (ix5 b 0 0 s j) = f (angle (p (ix4 b 0 0 ⟨s.val, by omega⟩)) j) := by
  obtain ⟨h0, h1⟩ := hp b s
  have hi : (((p (ix4 b 0 0 ⟨s.val, by omega⟩)).toInt.toNat : ℕ) : ℤ) = (p (ix4 b 0 0 ⟨s.val, by omega⟩)).toInt :=
    Int.toNat_of_nonneg h0
  rw [gather_apply x _ b s j ⟨(p (ix4 b 0 0 ⟨s.val, by omega⟩)).toInt.toNat, by omega⟩
    (by rw [row_apply p b s h0]; exact hi.symm), hx, angle]
  have hr : (((p (ix4 b 0 0 ⟨s.val, by omega⟩)).toInt.toNat : ℕ) : ℝ)
      = ((p (ix4 b 0 0 ⟨s.val, by omega⟩)).toInt : ℝ) := by exact_mod_cast hi
  rw [hr]

/-- The cosines, in every row: looked up before row 2048, computed from there on. -/
theorem cos_apply (p : IVec S2x1x1x4096 32) (hp : InTable p) (b : Fin 2) (r : Fin 4096) (j : Fin 128) :
    val_main_v50 (F := Ideal) p (ix5 b 0 0 r j) = (Real.cos (angle (p (ix4 b 0 0 r)) j) : EReal) := by
  pointwise [val_main_v50, val_main_v47, val_main_v46]
  split
  · rename_i h
    refine lookup_apply _ (fun a => (Real.cos a : EReal)) (fun n k => ?_) p hp b ⟨r.val, h⟩ j
    pointwise [val_main_v19]
    rw [table_apply]
    rfl
  · rename_i h
    have hr : (⟨2048 + (r.val - 2048), by omega⟩ : Fin 4096) = r := Fin.ext (by simp only; omega)
    rw [late_apply, hr]
    rfl

/-- The sines, in every row: looked up before row 2048, computed from there on. -/
theorem sin_apply (p : IVec S2x1x1x4096 32) (hp : InTable p) (b : Fin 2) (r : Fin 4096) (j : Fin 128) :
    val_main_v51 (F := Ideal) p (ix5 b 0 0 r j) = (Real.sin (angle (p (ix4 b 0 0 r)) j) : EReal) := by
  pointwise [val_main_v51, val_main_v49, val_main_v48]
  split
  · rename_i h
    show Host.gather _ _ (val_main_v34 (F := Ideal) p) _ = _
    rw [rows_eq]
    refine lookup_apply _ (fun a => (Real.sin a : EReal)) (fun n k => ?_) p hp b ⟨r.val, h⟩ j
    pointwise [val_main_v20]
    rw [table_apply]
    rfl
  · rename_i h
    have hr : (⟨2048 + (r.val - 2048), by omega⟩ : Fin 4096) = r := Fin.ext (by simp only; omega)
    rw [late_apply, hr]
    rfl

/-! ## The rotated array -/

/-- The partner of an even lane is the next lane, that of an odd lane the one before. -/
theorem partner_val : ∀ j : Fin 128, (partner j).val = if j.val % 2 = 0 then 1 + 2 * (j.val / 2) else 2 * (j.val / 2) := by
  decide +kernel

/-- The array with the lanes of each pair exchanged and the even one negated. -/
theorem rotated_apply (x : FVec Ideal S2x8x4x4096x128 .f32) (b : Fin 2) (g : Fin 8) (h : Fin 4) (r : Fin 4096)
    (j : Fin 128) :
    val_main_v60 (F := Ideal) x (ix5 b g h r j)
      = if j.val % 2 = 0 then -x (ix5 b g h r (partner j)) else x (ix5 b g h r (partner j)) := by
  pointwise [val_main_v60, val_main_v59, val_main_v58, val_main_v57, val_main_v56, val_main_v55, val_main_v54]
  have hj := partner_val j
  by_cases e : j.val % 2 = 0
  · rw [if_pos e] at hj
    rw [dif_pos (by omega), if_pos e]
    exact congrArg (fun k => -x (ix5 b g h r k)) (Fin.ext hj.symm)
  · rw [if_neg e] at hj
    rw [dif_neg (by omega), if_neg e]
    exact congrArg (fun k => x (ix5 b g h r k)) (Fin.ext hj.symm)

/-! ## The result -/

/-- The reference's result at an index is the element turned by its row's position. -/
theorem result_apply (x : FVec Ideal S2x8x4x4096x128 .f32) (p : IVec S2x1x1x4096 32) (hp : InTable p) (b : Fin 2)
    (g : Fin 8) (h : Fin 4) (r : Fin 4096) (j : Fin 128) :
    val_main_v63 (F := Ideal) x p (ix5 b g h r j)
      = turned (p (ix4 b 0 0 r)) j (x (ix5 b g h r j)) (x (ix5 b g h r (partner j))) := by
  pointwise [val_main_v63, val_main_v62, val_main_v61, val_main_v53, val_main_v52]
  rw [cos_apply p hp, sin_apply p hp, rotated_apply]
  rfl

end Cert.ReferenceIdeal.At

end
-- ==== Proof.Range.lean ====
module

public import proofs.«01_k».proof.Proof.Gen.Pre_positions_in_table
public import proofs.«01_k».proof.Proof.Reference
public import Idealize.ShloMosaic.Lib.ReduceAll

@[expose] public section

noncomputable section

/-! What the precondition says of the positions. -/

namespace Cert.Pre_positions_in_table.Read

open Cert.Pre_positions_in_table Cert.Pre_positions_in_table.Gen Idealize.ShloMosaic

/-- Where the precondition holds, each position of the first half is the number of a row of the table. -/
theorem in_table (x : FVec Ideal S2x8x4x4096x128 .f32) (p : IVec S2x1x1x4096 32)
    (h : fn (F := Ideal) x p = fun _ => 1#1) : Cert.ReferenceIdeal.At.InTable p := by
  intro b s
  have hs : Subsingleton S_.Idx := ⟨fun a c => funext fun d => d.elim0⟩
  have hi := Host.reduce_andi_all _ _ _ _ _ (congrFun h (fun d => d.elim0)) (ix4 b 0 0 s)
  obtain ⟨h0, h1⟩ := IntOp.andi_eq_one.1 hi
  pointwise at h0 h1
  constructor
  · word_omega
  · word_omega

end Cert.Pre_positions_in_table.Read

end
-- ==== Proof.Equation.lean ====
module

public import proofs.«01_k».proof.Proof.Final
public import proofs.«01_k».proof.Proof.Range
public import proofs.«01_k».proof.Proof.Gen.ReferenceIdeal.Run

@[expose] public section

noncomputable section

/-! The equation between the two programs' results. -/

namespace Cert.Equation

open Idealize.ShloMosaic Idealize.SL.Sem

/-- From memories that agree on the arguments, with the first half's positions in the table, the reference's result is
    what the kernel's program leaves. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hp : Cert.ReferenceIdeal.At.InTable (Cert.KernelIdeal.Final.pos m c))
    (hx : m' ((c.tc : Thread Cert.ReferenceIdeal.nD Cert.ReferenceIdeal.τ).loc Cert.ReferenceIdeal.main_arg0)
      = Cert.KernelIdeal.Final.arr m c)
    (hs : m' ((c.tc : Thread Cert.ReferenceIdeal.nD Cert.ReferenceIdeal.τ).loc Cert.ReferenceIdeal.main_arg1)
      = Cert.KernelIdeal.Final.pos m c) :
    Cert.ReferenceIdeal.Value.res_main_v63 (F := Ideal) m' c = Cert.KernelIdeal.Final.result m c := by
  rw [Cert.ReferenceIdeal.Read.val_main_v63_eq, hx, hs]
  funext i
  idx_vars i
  exact Cert.ReferenceIdeal.At.result_apply _ _ hp _ _ _ _ _

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_positions_in_table
public import proofs.«01_k».proof.Proof.Gen.ReferenceIdeal.Run
public import proofs.«01_k».proof.Proof.Gen.ReferenceIdeal.Read
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, leaves its arguments as they were, and ends with every semaphore at zero: it has none. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's program and the reference, from memories that agree on the arguments and with the first half's positions
    in the table, end with equal results. -/
theorem algebraic : Cert.algebraic_KernelIdeal_ReferenceIdeal_pre_positions_in_table
    (hKernelIdeal := Cert.KernelIdeal.Gen.facts) (hReferenceIdeal := Cert.ReferenceIdeal.Gen.facts)
    (hPre_positions_in_table := Cert.Pre_positions_in_table.Gen.facts) := by
  intro m g m' g' hpre hagree
  refine ⟨fun c => Cert.KernelIdeal.Final.result m c, Cert.KernelIdeal.Final.run m g, ?_⟩
  exact (θ_run Cert.ReferenceIdeal.defs _ _).mono
    (fun r h c => ⟨(h c).1.trans (Cert.Equation.result_eq m m' c
        (Cert.Pre_positions_in_table.Read.in_table _ _ (hpre c)) (hagree c).1 (hagree c).2), (h c).2⟩)
    (Cert.ReferenceIdeal.Value.run (F := Ideal) m' g')

/-- Everything that the certificate claims. -/
theorem claim : Cert.Claim :=
  ⟨Cert.Kernel.Gen.facts, Cert.KernelIdeal.Gen.facts, Cert.ReferenceIdeal.Gen.facts, Cert.Pre_positions_in_table.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    algebraic⟩

end Cert.Proof

end
